-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_attr_zero_alpha [hPre_unit_attr_zero_alpha : Cert.Pre_unit_attr_zero_alpha.Facts] (m : (ℓ : Loc Cert.KernelIdeal.nD Cert.KernelIdeal.τ Cert.KernelIdeal.sig) → Buf (Elt Ideal) ℓ) : Prop :=
  ∀ c : Dev Cert.KernelIdeal.nD,
    (Cert.Pre_unit_attr_zero_alpha.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_unit_attr_zero_alpha.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_unit_attr_zero_alpha.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_attr_zero_alpha [hPre_unit_attr_zero_alpha : Cert.Pre_unit_attr_zero_alpha.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_attr_zero_alpha.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_unit_attr_zero_alpha.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_unit_attr_zero_alpha.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_unit_attr_zero_alpha [hKernelIdeal : Cert.KernelIdeal.Facts] [hPre_unit_attr_zero_alpha : Cert.Pre_unit_attr_zero_alpha.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_attr_zero_alpha m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_unit_attr_zero_alpha [hReferenceIdeal : Cert.ReferenceIdeal.Facts] [hPre_unit_attr_zero_alpha : Cert.Pre_unit_attr_zero_alpha.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_attr_zero_alpha m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_unit_attr_zero_alpha [hKernelIdeal : Cert.KernelIdeal.Facts] [hReferenceIdeal : Cert.ReferenceIdeal.Facts] [hPre_unit_attr_zero_alpha : Cert.Pre_unit_attr_zero_alpha.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_attr_zero_alpha m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_unit_attr_zero_alpha : Cert.Pre_unit_attr_zero_alpha.Facts),
    quiescent_Kernel (hKernel := hKernel)
    ∧ quiescent_KernelIdeal (hKernelIdeal := hKernelIdeal)
    ∧ quiescent_KernelIdeal_pre_unit_attr_zero_alpha (hKernelIdeal := hKernelIdeal) (hPre_unit_attr_zero_alpha := hPre_unit_attr_zero_alpha)
    ∧ quiescent_ReferenceIdeal (hReferenceIdeal := hReferenceIdeal)
    ∧ quiescent_ReferenceIdeal_pre_unit_attr_zero_alpha (hReferenceIdeal := hReferenceIdeal) (hPre_unit_attr_zero_alpha := hPre_unit_attr_zero_alpha)
    ∧ preserves_Kernel_KernelIdeal
    ∧ algebraic_KernelIdeal_ReferenceIdeal_pre_unit_attr_zero_alpha (hKernelIdeal := hKernelIdeal) (hReferenceIdeal := hReferenceIdeal) (hPre_unit_attr_zero_alpha := hPre_unit_attr_zero_alpha)
-- ==== Pre_unit_attr_zero_alpha.lean ====
abbrev S10000x128 : Shape := ⟨2, ![10000, 128]⟩
abbrev S10000x1 : Shape := ⟨2, ![10000, 1]⟩
abbrev S320000 : Shape := ⟨1, ![320000]⟩
abbrev S320000x1 : Shape := ⟨2, ![320000, 1]⟩
abbrev S320000x10 : Shape := ⟨2, ![320000, 10]⟩
abbrev S128x128 : Shape := ⟨2, ![128, 128]⟩
abbrev S10x64 : Shape := ⟨2, ![10, 64]⟩
abbrev S64x128 : Shape := ⟨2, ![64, 128]⟩
abbrev S128 : Shape := ⟨1, ![128]⟩
abbrev S_ : Shape := ⟨0, ![]⟩

class Facts : Prop where
  bcast_S_S10000x1 : S_.BroadcastsInDim S10000x1 (![] : Fin 0 → Fin S10000x1.rank)
  bcast_S_S128 : S_.BroadcastsInDim S128 (![] : Fin 0 → Fin S128.rank)

variable [Facts]

def fn {F : FTy → Type} [FloatOps F] (main_arg0 : FVec F S10000x128 .f32) (main_arg1 : FVec F S10000x1 .f32) (main_arg2 : IVec S320000 32) (main_arg3 : IVec S320000 32) (main_arg4 : FVec F S320000x1 .f32) (main_arg5 : FVec F S320000x10 .f32) (main_arg6 : FVec F S128x128 .f32) (main_arg7 : FVec F S128x128 .f32) (main_arg8 : FVec F S10x64 .f32) (main_arg9 : FVec F S64x128 .f32) (main_arg10 : FVec F S128x128 .f32) (main_arg11 : FVec F S128 .f32) (main_arg12 : FVec F S128x128 .f32) (main_arg13 : FVec F S128x128 .f32) (main_arg14 : FVec F S10x64 .f32) (main_arg15 : FVec F S64x128 .f32) (main_arg16 : FVec F S128x128 .f32) (main_arg17 : FVec F S128 .f32) : IVec S10000x1 1 × IVec S128 1 × IVec S128 1 :=
  let main_cst : FVec F S_ .f32 := constant S_ .f32 0x3F800000#32
  let main_v0 : FVec F S10000x1 .f32 := broadcastInDim S10000x1 ![] bcast_S_S10000x1 main_cst
  let main_v1 : IVec S10000x1 1 := cmpf .oeq main_arg1 main_v0
  let main_cst_0 : FVec F S_ .f32 := constant S_ .f32 0x00000000#32
  let main_v2 : FVec F S128 .f32 := broadcastInDim S128 ![] bcast_S_S128 main_cst_0
  let main_v3 : IVec S128 1 := cmpf .oeq main_arg11 main_v2
  let main_cst_1 : FVec F S_ .f32 := constant S_ .f32 0x00000000#32
  let main_v4 : FVec F S128 .f32 := broadcastInDim S128 ![] bcast_S_S128 main_cst_1
  let main_v5 : IVec S128 1 := cmpf .oeq main_arg17 main_v4
  (main_v1, main_v3, main_v5)
-- ==== Kernel.lean ====
abbrev S10000x128 : Shape := ⟨2, ![10000, 128]⟩
abbrev S10000x1 : Shape := ⟨2, ![10000, 1]⟩
abbrev S320000 : Shape := ⟨1, ![320000]⟩
abbrev S320000x1 : Shape := ⟨2, ![320000, 1]⟩
abbrev S320000x10 : Shape := ⟨2, ![320000, 10]⟩
abbrev S128x128 : Shape := ⟨2, ![128, 128]⟩
abbrev S10x64 : Shape := ⟨2, ![10, 64]⟩
abbrev S64x128 : Shape := ⟨2, ![64, 128]⟩
abbrev S128 : Shape := ⟨1, ![128]⟩

abbrev nBuf : Space → Nat
  | .hbm => 19
  | .vmem => 4
  | .smem => 0
  | _ => 0

abbrev bufTy : (tb : Table) → Fin (tcTables nBuf tb) → BufTy
  | .hbm, ⟨0, _⟩ => ⟨S10000x128, .f32⟩
  | .hbm, ⟨1, _⟩ => ⟨S10000x1, .f32⟩
  | .hbm, ⟨2, _⟩ => ⟨S320000, .i32⟩
  | .hbm, ⟨3, _⟩ => ⟨S320000, .i32⟩
  | .hbm, ⟨4, _⟩ => ⟨S320000x1, .f32⟩
  | .hbm, ⟨5, _⟩ => ⟨S320000x10, .f32⟩
  | .hbm, ⟨6, _⟩ => ⟨S128x128, .f32⟩
  | .hbm, ⟨7, _⟩ => ⟨S128x128, .f32⟩
  | .hbm, ⟨8, _⟩ => ⟨S10x64, .f32⟩
  | .hbm, ⟨9, _⟩ => ⟨S64x128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128x128, .f32⟩
  | .hbm, ⟨14, _⟩ => ⟨S10x64, .f32⟩
  | .hbm, ⟨15, _⟩ => ⟨S64x128, .f32⟩
  | .hbm, ⟨16, _⟩ => ⟨S128x128, .f32⟩
  | .hbm, ⟨17, _⟩ => ⟨S128, .f32⟩
  | .hbm, ⟨18, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S10000x128 : Shape := ⟨2, ![10000, 128]⟩
abbrev S10000x1 : Shape := ⟨2, ![10000, 1]⟩
abbrev S320000 : Shape := ⟨1, ![320000]⟩
abbrev S320000x1 : Shape := ⟨2, ![320000, 1]⟩
abbrev S320000x10 : Shape := ⟨2, ![320000, 10]⟩
abbrev S128x128 : Shape := ⟨2, ![128, 128]⟩
abbrev S10x64 : Shape := ⟨2, ![10, 64]⟩
abbrev S64x128 : Shape := ⟨2, ![64, 128]⟩
abbrev S128 : Shape := ⟨1, ![128]⟩
abbrev S320000x64 : Shape := ⟨2, ![320000, 64]⟩
abbrev S_ : Shape := ⟨0, ![]⟩
abbrev S320000x128 : Shape := ⟨2, ![320000, 128]⟩
abbrev S1 : Shape := ⟨1, ![1]⟩
abbrev S1x1 : Shape := ⟨2, ![1, 1]⟩
abbrev S128x1 : Shape := ⟨2, ![128, 1]⟩
abbrev S1x128 : Shape := ⟨2, ![1, 128]⟩

abbrev nBuf : Space → Nat
  | .hbm => 231
  | .vmem => 0
  | .smem => 0
  | _ => 0

abbrev hbmTy0_0 (i : Nat) : BufTy := match i % 128 with
  | 0 => ⟨S10000x128, .f32⟩
  | 1 => ⟨S10000x1, .f32⟩
  | 2 => ⟨S320000, .i32⟩
  | 3 => ⟨S320000, .i32⟩
  | 4 => ⟨S320000x1, .f32⟩
  | 5 => ⟨S320000x10, .f32⟩
  | 6 => ⟨S128x128, .f32⟩
  | 7 => ⟨S128x128, .f32⟩
  | 8 => ⟨S10x64, .f32⟩
  | 9 => ⟨S64x128, .f32⟩
  | 10 => ⟨S128x128, .f32⟩
  | 11 => ⟨S128, .f32⟩
  | 12 => ⟨S128x128, .f32⟩
  | 13 => ⟨S128x128, .f32⟩
  | 14 => ⟨S10x64, .f32⟩
  | 15 => ⟨S64x128, .f32⟩
  | 16 => ⟨S128x128, .f32⟩
  | 17 => ⟨S128, .f32⟩
  | 18 => ⟨S320000x64, .f32⟩
  | 19 => ⟨S_, .f32⟩
  | 20 => ⟨S_, .f32⟩
  | 21 => ⟨S320000x64, .f32⟩
  | 22 => ⟨S320000x64, .f32⟩
  | 23 => ⟨S320000x64, .f32⟩
  | 24 => ⟨S320000x64, .f32⟩
  | 25 => ⟨S_, .f32⟩
  | 26 => ⟨S320000x64, .f32⟩
  | 27 => ⟨S320000x64, .f32⟩
  | 28 => ⟨S_, .f32⟩
  | 29 => ⟨S320000x64, .f32⟩
  | 30 => ⟨S320000x64, .f32⟩
  | 31 => ⟨S320000x64, .f32⟩
  | 32 => ⟨S320000x128, .f32⟩
  | 33 => ⟨S_, .f32⟩
  | 34 => ⟨S_, .f32⟩
  | 35 => ⟨S320000x128, .f32⟩
  | 36 => ⟨S320000x128, .f32⟩
  | 37 => ⟨S10000x128, .f32⟩
  | 38 => ⟨S_, .f32⟩
  | 39 => ⟨S_, .f32⟩
  | 40 => ⟨S10000x128, .f32⟩
  | 41 => ⟨S10000x128, .f32⟩
  | 42 => ⟨S10000x128, .f32⟩
  | 43 => ⟨S10000x128, .f32⟩
  | 44 => ⟨S10000x128, .f32⟩
  | 45 => ⟨S_, .f32⟩
  | 46 => ⟨S_, .f32⟩
  | 47 => ⟨S10000x128, .f32⟩
  | 48 => ⟨S10000x128, .f32⟩
  | 49 => ⟨S10000x128, .f32⟩
  | 50 => ⟨S10000x128, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S1, .i32⟩
  | 60 => ⟨S_, .i32⟩
  | 61 => ⟨S320000x1, .i32⟩
  | 62 => ⟨S320000x1, .i1⟩
  | 63 => ⟨S1x1, .i32⟩
  | 64 => ⟨S320000x1, .i32⟩
  | 65 => ⟨S320000x1, .i1⟩
  | 66 => ⟨S320000x1, .i1⟩
  | 67 => ⟨S_, .i1⟩
  | 68 => ⟨S320000, .i1⟩
  | 69 => ⟨S320000x128, .f32⟩
  | 70 => ⟨S320000x128, .i1⟩
  | 71 => ⟨S_, .f32⟩
  | 72 => ⟨S320000x128, .f32⟩
  | 73 => ⟨S320000x128, .f32⟩
  | 74 => ⟨S320000x128, .f32⟩
  | 75 => ⟨S320000x128, .f32⟩
  | 76 => ⟨S320000x128, .f32⟩
  | 77 => ⟨S_, .f32⟩
  | 78 => ⟨S10000x128, .f32⟩
  | 79 => ⟨S320000x1, .i32⟩
  | 80 => ⟨S10000x128, .f32⟩
  | 81 => ⟨S_, .f32⟩
  | 82 => ⟨S320000x1, .f32⟩
  | 83 => ⟨S_, .f32⟩
  | 84 => ⟨S10000x1, .f32⟩
  | 85 => ⟨S320000x1, .i32⟩
  | 86 => ⟨S10000x1, .f32⟩
  | 87 => ⟨S_, .f32⟩
  | 88 => ⟨S10000x1, .f32⟩
  | 89 => ⟨S10000x1, .f32⟩
  | 90 => ⟨S10000x128, .f32⟩
  | 91 => ⟨S10000x128, .f32⟩
  | 92 => ⟨S128x1, .f32⟩
  | 93 => ⟨S10000x1, .f32⟩
  | 94 => ⟨S_, .f32⟩
  | 95 => ⟨S_, .f32⟩
  | 96 => ⟨S10000x1, .f32⟩
  | 97 => ⟨S10000x1, .f32⟩
  | 98 => ⟨S10000x1, .f32⟩
  | 99 => ⟨S10000x128, .f32⟩
  | 100 => ⟨S_, .f32⟩
  | 101 => ⟨S_, .f32⟩
  | 102 => ⟨S10000x128, .f32⟩
  | 103 => ⟨S10000x128, .f32⟩
  | 104 => ⟨S10000x128, .f32⟩
  | 105 => ⟨S10000x128, .f32⟩
  | 106 => ⟨S_, .f32⟩
  | 107 => ⟨S128, .f32⟩
  | 108 => ⟨S_, .f32⟩
  | 109 => ⟨S128, .f32⟩
  | 110 => ⟨S128, .f32⟩
  | 111 => ⟨S1x128, .f32⟩
  | 112 => ⟨S10000x128, .f32⟩
  | 113 => ⟨S10000x128, .f32⟩
  | 114 => ⟨S10000x128, .f32⟩
  | 115 => ⟨S1x128, .f32⟩
  | 116 => ⟨S10000x128, .f32⟩
  | 117 => ⟨S10000x128, .f32⟩
  | 118 => ⟨S10000x128, .f32⟩
  | 119 => ⟨S10000x128, .f32⟩
  | 120 => ⟨S10000x128, .f32⟩
  | 121 => ⟨S10000x128, .f32⟩
  | 122 => ⟨S_, .f32⟩
  | 123 => ⟨S10000x128, .f32⟩
  | 124 => ⟨S10000x128, .f32⟩
  | 125 => ⟨S_, .f32⟩
  | 126 => ⟨S10000x128, .f32⟩
  | 127 => ⟨S10000x128, .f32⟩
  | _ => ⟨S10000x128, .f32⟩

abbrev hbmTy0_1 (i : Nat) : BufTy := match i % 128 with
  | 0 => ⟨S10000x128, .f32⟩
  | 1 => ⟨S320000x64, .f32⟩
  | 2 => ⟨S_, .f32⟩
  | 3 => ⟨S_, .f32⟩
  | 4 => ⟨S320000x64, .f32⟩
  | 5 => ⟨S320000x64, .f32⟩
  | 6 => ⟨S320000x64, .f32⟩
  | 7 => ⟨S320000x64, .f32⟩
  | 8 => ⟨S_, .f32⟩
  | 9 => ⟨S320000x64, .f32⟩
  | 10 => ⟨S320000x64, .f32⟩
  | 11 => ⟨S_, .f32⟩
  | 12 => ⟨S320000x64, .f32⟩
  | 13 => ⟨S320000x64, .f32⟩
  | 14 => ⟨S320000x64, .f32⟩
  | 15 => ⟨S320000x128, .f32⟩
  | 16 => ⟨S_, .f32⟩
  | 17 => ⟨S_, .f32⟩
  | 18 => ⟨S320000x128, .f32⟩
  | 19 => ⟨S320000x128, .f32⟩
  | 20 => ⟨S10000x128, .f32⟩
  | 21 => ⟨S_, .f32⟩
  | 22 => ⟨S_, .f32⟩
  | 23 => ⟨S10000x128, .f32⟩
  | 24 => ⟨S10000x128, .f32⟩
  | 25 => ⟨S10000x128, .f32⟩
  | 26 => ⟨S10000x128, .f32⟩
  | 27 => ⟨S10000x128, .f32⟩
  | 28 => ⟨S_, .f32⟩
  | 29 => ⟨S_, .f32⟩
  | 30 => ⟨S10000x128, .f32⟩
  | 31 => ⟨S10000x128, .f32⟩
  | 32 => ⟨S10000x128, .f32⟩
  | 33 => ⟨S10000x128, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S1, .i32⟩
  | 43 => ⟨S_, .i32⟩
  | 44 => ⟨S320000x1, .i32⟩
  | 45 => ⟨S320000x1, .i1⟩
  | 46 => ⟨S1x1, .i32⟩
  | 47 => ⟨S320000x1, .i32⟩
  | 48 => ⟨S320000x1, .i1⟩
  | 49 => ⟨S320000x1, .i1⟩
  | 50 => ⟨S_, .i1⟩
  | 51 => ⟨S320000, .i1⟩
  | 52 => ⟨S320000x128, .f32⟩
  | 53 => ⟨S320000x128, .i1⟩
  | 54 => ⟨S_, .f32⟩
  | 55 => ⟨S320000x128, .f32⟩
  | 56 => ⟨S320000x128, .f32⟩
  | 57 => ⟨S320000x128, .f32⟩
  | 58 => ⟨S320000x128, .f32⟩
  | 59 => ⟨S320000x128, .f32⟩
  | 60 => ⟨S_, .f32⟩
  | 61 => ⟨S10000x128, .f32⟩
  | 62 => ⟨S320000x1, .i32⟩
  | 63 => ⟨S10000x128, .f32⟩
  | 64 => ⟨S_, .f32⟩
  | 65 => ⟨S320000x1, .f32⟩
  | 66 => ⟨S_, .f32⟩
  | 67 => ⟨S10000x1, .f32⟩
  | 68 => ⟨S320000x1, .i32⟩
  | 69 => ⟨S10000x1, .f32⟩
  | 70 => ⟨S_, .f32⟩
  | 71 => ⟨S10000x1, .f32⟩
  | 72 => ⟨S10000x1, .f32⟩
  | 73 => ⟨S10000x128, .f32⟩
  | 74 => ⟨S10000x128, .f32⟩
  | 75 => ⟨S128x1, .f32⟩
  | 76 => ⟨S10000x1, .f32⟩
  | 77 => ⟨S_, .f32⟩
  | 78 => ⟨S_, .f32⟩
  | 79 => ⟨S10000x1, .f32⟩
  | 80 => ⟨S10000x1, .f32⟩
  | 81 => ⟨S10000x1, .f32⟩
  | 82 => ⟨S10000x128, .f32⟩
  | 83 => ⟨S_, .f32⟩
  | 84 => ⟨S_, .f32⟩
  | 85 => ⟨S10000x128, .f32⟩
  | 86 => ⟨S10000x128, .f32⟩
  | 87 => ⟨S10000x128, .f32⟩
  | 88 => ⟨S10000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S10000x128, .f32⟩
  | 96 => ⟨S10000x128, .f32⟩
  | 97 => ⟨S10000x128, .f32⟩
  | 98 => ⟨S1x128, .f32⟩
  | 99 => ⟨S10000x128, .f32⟩
  | 100 => ⟨S10000x128, .f32⟩
  | 101 => ⟨S10000x128, .f32⟩
  | 102 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v4 : Ref sig .tc := ⟨.hbm, 31, rfl⟩
abbrev main_v5 : Ref sig .tc := ⟨.hbm, 32, rfl⟩
abbrev main_cst_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_3 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_4 : Ref sig .tc := ⟨.hbm, 81, rfl⟩
abbrev main_v28 : Ref sig .tc := ⟨.hbm, 82, rfl⟩
abbrev main_cst_5 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_cst_6 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_cst_7 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_cst_8 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_cst_9 : Ref sig .tc := ⟨.hbm, 106, rfl⟩
abbrev main_v48 : Ref sig .tc := ⟨.hbm, 107, rfl⟩
abbrev main_cst_10 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_call2_v0 : Ref sig .tc := ⟨.hbm, 120, rfl⟩
abbrev main_call2_v1 : Ref sig .tc := ⟨.hbm, 121, rfl⟩
abbrev main_call2_cst : Ref sig .tc := ⟨.hbm, 122, rfl⟩
abbrev main_call2_v2 : Ref sig .tc := ⟨.hbm, 123, rfl⟩
abbrev main_call2_v3 : Ref sig .tc := ⟨.hbm, 124, rfl⟩
abbrev main_call2_cst_0 : Ref sig .tc := ⟨.hbm, 125, rfl⟩
abbrev main_call2_v4 : Ref sig .tc := ⟨.hbm, 126, rfl⟩
abbrev main_call2_v5 : Ref sig .tc := ⟨.hbm, 127, rfl⟩
abbrev main_v60 : Ref sig .tc := ⟨.hbm, 128, rfl⟩
abbrev main_v61 : Ref sig .tc := ⟨.hbm, 129, rfl⟩
abbrev main_cst_11 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_call3_v0 : Ref sig .tc := ⟨.hbm, 134, rfl⟩
abbrev main_call3_v1 : Ref sig .tc := ⟨.hbm, 135, rfl⟩
abbrev main_call3_cst : Ref sig .tc := ⟨.hbm, 136, rfl⟩
abbrev main_call3_v2 : Ref sig .tc := ⟨.hbm, 137, rfl⟩
abbrev main_call3_v3 : Ref sig .tc := ⟨.hbm, 138, rfl⟩
abbrev main_call3_cst_0 : Ref sig .tc := ⟨.hbm, 139, rfl⟩
abbrev main_call3_v4 : Ref sig .tc := ⟨.hbm, 140, rfl⟩
abbrev main_call3_v5 : Ref sig .tc := ⟨.hbm, 141, rfl⟩
abbrev main_v65 : Ref sig .tc := ⟨.hbm, 142, rfl⟩
abbrev main_v66 : Ref sig .tc := ⟨.hbm, 143, rfl⟩
abbrev main_cst_12 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_cst_13 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_cst_14 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_call4_c : Ref sig .tc := ⟨.hbm, 162, rfl⟩
abbrev main_call4_v0 : Ref sig .tc := ⟨.hbm, 163, rfl⟩
abbrev main_call4_v1 : Ref sig .tc := ⟨.hbm, 164, rfl⟩
abbrev main_call4_c_0 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_call4_v5 : Ref sig .tc := ⟨.hbm, 169, rfl⟩
abbrev main_call4_c_1 : Ref sig .tc := ⟨.hbm, 170, rfl⟩
abbrev main_call4_c_2 : Ref sig .tc := ⟨.hbm, 171, rfl⟩
abbrev main_call4_v6 : Ref sig .tc := ⟨.hbm, 172, rfl⟩
abbrev main_call4_v7 : Ref sig .tc := ⟨.hbm, 173, rfl⟩
abbrev main_call4_v8 : Ref sig .tc := ⟨.hbm, 174, rfl⟩
abbrev main_call4_v9 : Ref sig .tc := ⟨.hbm, 175, rfl⟩
abbrev main_call4_v10 : Ref sig .tc := ⟨.hbm, 176, rfl⟩
abbrev main_call4_v11 : Ref sig .tc := ⟨.hbm, 177, rfl⟩
abbrev main_call4_c_3 : Ref sig .tc := ⟨.hbm, 178, rfl⟩
abbrev main_call4_v12 : Ref sig .tc := ⟨.hbm, 179, rfl⟩
abbrev main_call4_v13 : Ref sig .tc := ⟨.hbm, 180, rfl⟩
abbrev main_call4_v14 : Ref sig .tc := ⟨.hbm, 181, rfl⟩
abbrev main_call4_cst : Ref sig .tc := ⟨.hbm, 182, rfl⟩
abbrev main_call4_v15 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_cst_15 : Ref sig .tc := ⟨.hbm, 188, rfl⟩
abbrev main_v86 : Ref sig .tc := ⟨.hbm, 189, rfl⟩
abbrev main_v87 : Ref sig .tc := ⟨.hbm, 190, rfl⟩
abbrev main_v88 : Ref sig .tc := ⟨.hbm, 191, rfl⟩
abbrev main_cst_16 : Ref sig .tc := ⟨.hbm, 192, rfl⟩
abbrev main_v89 : Ref sig .tc := ⟨.hbm, 193, rfl⟩
abbrev main_cst_17 : Ref sig .tc := ⟨.hbm, 194, rfl⟩
abbrev main_v90 : Ref sig .tc := ⟨.hbm, 195, rfl⟩
abbrev main_v91 : Ref sig .tc := ⟨.hbm, 196, rfl⟩
abbrev main_v92 : Ref sig .tc := ⟨.hbm, 197, rfl⟩
abbrev main_cst_18 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_cst_19 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_cst_20 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_cst_21 : Ref sig .tc := ⟨.hbm, 217, rfl⟩
abbrev main_v109 : Ref sig .tc := ⟨.hbm, 218, rfl⟩
abbrev main_cst_22 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩

abbrev nD : Nat := 1
abbrev τ : Topo := Topo.v7x

variable {F : FTy → Type} [FloatOps F]
-- ==== Proof.Precondition.lean ====
/- What the precondition says of the launched arrays: the node attributes are one and both alpha weights zero. -/
module

public import proofs.«01_k».proof.Pre_unit_attr_zero_alpha
public import proofs.«01_k».proof.Proof.Gen.Pre_unit_attr_zero_alpha
public import Idealize.ShloMosaic.Lib.IdealHost

@[expose] public section

noncomputable section

namespace Cert.Precondition

open Idealize.ShloMosaic

/-- An array whose elements all compare equal to a constant is that constant everywhere. -/
theorem all_eq {s : Shape} (x y : FVec Ideal s .f32) (h : cmpf .oeq x y = fun _ => 1#1) (i : s.Idx) : x i = y i := by
  have hi : Ideal.cmp .oeq (x i) (y i) = 1#1 := congrFun h i
  by_contra hne
  rw [show Ideal.cmp .oeq (x i) (y i) = BitVec.ofBool (decide (x i = y i)) from rfl, decide_eq_false hne] at hi
  exact absurd hi (by decide)

end Cert.Precondition

end
-- ==== Proof.Consts.lean ====
/- The numbers that occur on both sides: 128 as a 32-bit pattern, its square root, and the kernel's named
   constant. -/
module

public import proofs.«01_k».proof.KernelIdeal
public import Idealize.ShloMosaic.Lib.IdealHost

@[expose] public section

noncomputable section

namespace Cert.Consts

open Idealize.ShloMosaic

/-- The width of a feature row, as a 32-bit pattern. -/
theorem width_value : Ideal.ofBits .f32 0x43000000#32 = ((128 : ℝ) : EReal) := by
  simp [Ideal.ofBits, Ideal.ieee, -EReal.coe_mul]; norm_num

/-- The one factor the kernel applies after each product: the inverse of the square root of the width. -/
def scale : EReal := (((Real.sqrt 128)⁻¹ : ℝ) : EReal)

/-- Dividing by the square root of the width is multiplying by `scale`. -/
theorem div_sqrt_width (x : EReal) : Ideal.div x (Ideal.sqrt (Ideal.ofBits .f32 0x43000000#32)) = x * scale := by
  rw [width_value, Ideal.sqrt_coe, if_neg (by norm_num), Ideal.div_coe (by positivity), one_div]
  rfl

/-- The kernel's named constant denotes `scale`. -/
theorem named_scale :
    (Named.named Cert.KernelIdeal.κ "inv_sqrt_d" 0x3DB504F3#32 : Ideal .f32) = scale :=
  IdealRules.named_const.ideal_named_scalar _ _ _ _ rfl

end Cert.Consts

end
-- ==== Proof.Layer.lean ====
/- One layer of the reference, on unit node attributes and a zero alpha weight: the aggregated messages are
   multiplied by zero whatever they are, and the self connection is left. -/
module

public import proofs.«01_k».proof.Proof.Consts
public import proofs.«01_k».proof.ReferenceIdeal
public import proofs.«01_k».proof.Proof.Gen.ReferenceIdeal

@[expose] public section

noncomputable section

namespace Cert.Layer

open Idealize.ShloMosaic Cert.ReferenceIdeal Cert.ReferenceIdeal.Gen Cert.Consts

/-- The rows by a square weight. -/
abbrev rows : DotDims S10000x128 S128x128 S10000x128 := dot_S10000x128_S128x128_S10000x128_1_0_0_1_n_n

/-- The square root of the width at every element. -/
abbrev root : FVec Ideal S10000x128 .f32 :=
  broadcastInDim S10000x128 ![] bcast_S_S10000x128 (Host.sqrt (constant (F := Ideal) S_ .f32 0x43000000#32))

/-- A node column across the features. -/
abbrev across (v : FVec Ideal S10000x1 .f32) : FVec Ideal S10000x128 .f32 :=
  broadcastInDim S10000x128 ![0, 1] bcast_S10000x1_S10000x128_0_1 v

/-- A feature row down the nodes. -/
abbrev down (v : FVec Ideal S128 .f32) : FVec Ideal S10000x128 .f32 :=
  broadcastInDim S10000x128 ![0, 1] bcast_S1x128_S10000x128_0_1 (broadcastInDim S1x128 ![1] bcast_S128_S1x128_1 v)

/-- The constant one over the features: the mask of the gate. -/
abbrev mask : FVec Ideal S128 .f32 := broadcastInDim S128 ![] bcast_S_S128 (constant (F := Ideal) S_ .f32 0x3F800000#32)

/-- The gate's raw column: the mean messages against the alpha weight, scaled, by the node attribute. -/
abbrev gate (na : FVec Ideal S10000x1 .f32) (mean : FVec Ideal S10000x128 .f32) (alpha : FVec Ideal S128 .f32) :
    FVec Ideal S10000x1 .f32 :=
  mulf (Host.divf (Host.dotGeneral dot_S10000x128_S128x1_S10000x1_1_0_0_1_n_n none mean
      (broadcastInDim S128x1 ![0] bcast_S128_S128x1_0 alpha))
    (broadcastInDim S10000x1 ![] bcast_S_S10000x1 (Host.sqrt (constant (F := Ideal) S_ .f32 0x43000000#32)))) na

/-- A layer as the reference computes it from the rows `x`, the self-connection weight, the node attribute, the
    mean messages, the alpha weight and the output weight. -/
abbrev layer (x : FVec Ideal S10000x128 .f32) (sc : FVec Ideal S128x128 .f32) (na : FVec Ideal S10000x1 .f32)
    (mean : FVec Ideal S10000x128 .f32) (alpha : FVec Ideal S128 .f32) (lin2 : FVec Ideal S128x128 .f32) :
    FVec Ideal S10000x128 .f32 :=
  addf (mulf (Host.divf (Host.dotGeneral rows none x sc) root) (across na))
    (mulf (addf (down (subf (broadcastInDim S128 ![] bcast_S_S128 (constant (F := Ideal) S_ .f32 0x3F800000#32)) mask))
        (mulf (across (gate na mean alpha)) (down mask)))
      (mulf (Host.divf (Host.dotGeneral rows none mean lin2) root) (across na)))

/-- The self connection alone, scaled. -/
def self (x : FVec Ideal S10000x128 .f32) (sc : FVec Ideal S128x128 .f32) : FVec Ideal S10000x128 .f32 :=
  fun i => (∑ k : rows.contr.Idx, x (rows.lhsIdx i k) * sc (rows.rhsIdx i k)) * scale

/-- A zero alpha weight closes the gate, whatever the messages are. -/
theorem gate_zero (na : FVec Ideal S10000x1 .f32) (mean : FVec Ideal S10000x128 .f32) (alpha : FVec Ideal S128 .f32)
    (h : ∀ i, alpha i = 0) (i : S10000x1.Idx) : gate na mean alpha i = 0 := by
  have hdot : ∀ j, Host.dotGeneral dot_S10000x128_S128x1_S10000x1_1_0_0_1_n_n none mean
      (broadcastInDim S128x1 ![0] bcast_S128_S128x1_0 alpha) j = (0 : EReal) := fun j => by
    unfold Host.dotGeneral
    rw [Ideal.dotGeneral_apply]
    exact Finset.sum_eq_zero fun k _ => by
      rw [show broadcastInDim S128x1 ![0] bcast_S128_S128x1_0 alpha
        (dot_S10000x128_S128x1_S10000x1_1_0_0_1_n_n.rhsIdx j k) = (0 : EReal) from h _, mul_zero]
  show Ideal.div (Host.dotGeneral _ none mean _ i) (Ideal.sqrt (Ideal.ofBits .f32 0x43000000#32)) * na i = 0
  rw [hdot, div_sqrt_width, zero_mul, zero_mul]

/-- The difference of one and the mask is zero. -/
theorem mask_complement : (Ideal.ofBits .f32 0x3F800000#32 - Ideal.ofBits .f32 0x3F800000#32 : EReal) = 0 := by
  rw [Ideal.ofBits_one_f32, show (1 : EReal) = ((1 : ℝ) : EReal) from rfl, ← EReal.coe_sub, sub_self, EReal.coe_zero]

/-- On unit node attributes and a zero alpha weight a layer is its self connection. -/
theorem layer_eq_self (x : FVec Ideal S10000x128 .f32) (sc : FVec Ideal S128x128 .f32) (na : FVec Ideal S10000x1 .f32)
    (mean : FVec Ideal S10000x128 .f32) (alpha : FVec Ideal S128 .f32) (lin2 : FVec Ideal S128x128 .f32)
    (hna : ∀ i, na i = 1) (halpha : ∀ i, alpha i = 0) : layer x sc na mean alpha lin2 = self x sc := by
  funext i
  have hacross : across na i = (1 : EReal) := hna _
  have hgate : across (gate na mean alpha) i = (0 : EReal) := gate_zero na mean alpha halpha _
  have hself : Host.dotGeneral rows none x sc i = ∑ k : rows.contr.Idx, x (rows.lhsIdx i k) * sc (rows.rhsIdx i k) := by
    unfold Host.dotGeneral
    exact Ideal.dotGeneral_apply _ _ _ _ _ _
  show Ideal.div (Host.dotGeneral rows none x sc i) (Ideal.sqrt (Ideal.ofBits .f32 0x43000000#32)) * across na i
      + ((Ideal.ofBits .f32 0x3F800000#32 - Ideal.ofBits .f32 0x3F800000#32)
          + across (gate na mean alpha) i * Ideal.ofBits .f32 0x3F800000#32)
        * (Ideal.div (Host.dotGeneral rows none mean lin2 i) (Ideal.sqrt (Ideal.ofBits .f32 0x43000000#32)) * across na i)
      = self x sc i
  rw [mask_complement, hgate, hacross, zero_mul, add_zero, zero_mul, add_zero, mul_one, div_sqrt_width, hself]
  rfl

end Cert.Layer

end
-- ==== Proof.Equation.lean ====
/- The equation: on unit node attributes and zero alpha weights the reference's two layers are the kernel's block. -/
module

public import proofs.«01_k».proof.Proof.Layer
public import proofs.«01_k».proof.Proof.Gen.KernelIdeal.Skeleton
public import proofs.«01_k».proof.Proof.Gen.KernelIdeal.Value

@[expose] public section

noncomputable section

namespace Cert.Equation

open Idealize.ShloMosaic Cert.ReferenceIdeal Cert.ReferenceIdeal.Gen Cert.Consts Cert.Layer

/-- The activation between the layers, as the reference spells it. -/
abbrev silu (x : FVec Ideal S10000x128 .f32) : FVec Ideal S10000x128 .f32 :=
  mulf x (Host.divf (broadcastInDim S10000x128 ![] bcast_S_S10000x128 (constant (F := Ideal) S_ .f32 0x3F800000#32))
    (addf (broadcastInDim S10000x128 ![] bcast_S_S10000x128 (constant (F := Ideal) S_ .f32 0x3F800000#32))
      (Host.exp (Host.negf x))))

/-- It is the product with the logistic function. -/
theorem silu_apply (x : FVec Ideal S10000x128 .f32) (i : S10000x128.Idx) : silu x i = x i * Ideal.logistic (x i) := by
  show x i * Ideal.div (Ideal.ofBits .f32 0x3F800000#32) (Ideal.ofBits .f32 0x3F800000#32 + Ideal.exp (-(x i))) = _
  rw [Ideal.ofBits_one_f32]
  rfl

/-- One scaled product of the kernel is a self connection. -/
theorem product_eq_self (x : FVec Ideal S10000x128 .f32) (w : FVec Ideal S128x128 .f32) :
    mulf (matmul Cert.KernelIdeal.dot_S10000x128_S128x128_S10000x128_1_0_0_1_n_n none x w
        (constant S10000x128 .f32 0x00000000#32))
      (broadcast S10000x128 (Named.named Cert.KernelIdeal.κ "inv_sqrt_d" 0x3DB504F3#32 : Ideal .f32)) = self x w := by
  funext i
  show FloatOps.matmul Cert.KernelIdeal.dot_S10000x128_S128x128_S10000x128_1_0_0_1_n_n none x w
      (constant S10000x128 .f32 0x00000000#32) i
    * (Named.named Cert.KernelIdeal.κ "inv_sqrt_d" 0x3DB504F3#32 : Ideal .f32) = _
  rw [named_scale, Ideal.matmul_apply]
  show (Ideal.ofBits .f32 0x00000000#32 + _) * scale = _
  rw [Ideal.ofBits_zero_f32, zero_add]
  rfl

/-- The kernel's result: the two self connections with the activation between. -/
theorem kernel_eq (x : FVec Ideal S10000x128 .f32) (w0 w1 : FVec Ideal S128x128 .f32) :
    Cert.KernelIdeal.Value.G3 (F := Ideal) x w0 w1 = self (silu (self x w0)) w1 := by
  have hmid : silu (self x w0) = mulf (self x w0) (logistic (self x w0)) := funext fun i => silu_apply _ i
  rw [hmid, ← product_eq_self (mulf _ _) w1, ← product_eq_self x w0]
  rfl

/-- The two layers of the reference, the mean messages and the other weights being anything, are the kernel's
    result. -/
theorem reference_eq (x : FVec Ideal S10000x128 .f32) (na : FVec Ideal S10000x1 .f32)
    (sc0 sc1 lin0 lin1 : FVec Ideal S128x128 .f32) (alpha0 alpha1 : FVec Ideal S128 .f32)
    (mean0 mean1 : FVec Ideal S10000x128 .f32)
    (hna : ∀ i, na i = 1) (h0 : ∀ i, alpha0 i = 0) (h1 : ∀ i, alpha1 i = 0) :
    layer (silu (layer x sc0 na mean0 alpha0 lin0)) sc1 na mean1 alpha1 lin1
      = Cert.KernelIdeal.Value.G3 (F := Ideal) x sc0 sc1 := by
  rw [layer_eq_self _ _ _ _ _ _ hna h1, layer_eq_self _ _ _ _ _ _ hna h0, kernel_eq]

end Cert.Equation

end
-- ==== Proof.lean ====
/- The certificate: the two kernels' frames are the generated ones, the reference's is its run read back, and the
   value claim is the equation of Proof/Equation.lean at the launched arrays. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_unit_attr_zero_alpha
public import proofs.«01_k».proof.Proof.Gen.KernelIdeal.Value
public import proofs.«01_k».proof.Proof.Gen.ReferenceIdeal.Run
public import proofs.«01_k».proof.Proof.Precondition
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference leaves its arguments unchanged and every counter at zero. -/
theorem reference_frame : quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The one constant replaced by its name denotes the inverse root of 128. -/
theorem constant_named : preserves_Kernel_KernelIdeal :=
  IdealRules.named_const.statement Cert.KernelIdeal.κ "inv_sqrt_d" .f32 0x3DB504F3#32 (((Real.sqrt 128)⁻¹ : ℝ) : EReal) rfl

/-- The kernel and the reference end with the same array, on unit node attributes and zero alpha weights. -/
theorem value : algebraic_KernelIdeal_ReferenceIdeal_pre_unit_attr_zero_alpha
    (hKernelIdeal := Cert.KernelIdeal.Gen.facts) (hReferenceIdeal := Cert.ReferenceIdeal.Gen.facts)
    (hPre_unit_attr_zero_alpha := Cert.Pre_unit_attr_zero_alpha.Gen.facts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hattr, hzero0, hzero1⟩ := hpre c
  obtain ⟨e0, e1, -, -, -, -, e6, -, -, -, -, e11, e12, -, -, -, -, e17⟩ := hagree c
  rw [← e0, ← e6, ← e12]
  refine Eq.trans ?_ (Cert.Equation.reference_eq _ (m' (c.tc.loc Cert.ReferenceIdeal.main_arg1)) _ _
    (m' (c.tc.loc Cert.ReferenceIdeal.main_arg10)) (m' (c.tc.loc Cert.ReferenceIdeal.main_arg16))
    (m' (c.tc.loc Cert.ReferenceIdeal.main_arg11)) (m' (c.tc.loc Cert.ReferenceIdeal.main_arg17))
    (Cert.ReferenceIdeal.Value.res_main_v35 (StableHlo.launchContents m' c))
    (Cert.ReferenceIdeal.Value.res_main_v96 (StableHlo.launchContents m' c)) ?_ ?_ ?_)
  · rfl
  · rw [e1]; exact fun i => (Precondition.all_eq _ _ hattr i).trans Ideal.ofBits_one_f32
  · rw [e11]; exact fun i => (Precondition.all_eq _ _ hzero0 i).trans Ideal.ofBits_zero_f32
  · rw [e17]; exact fun i => (Precondition.all_eq _ _ hzero1 i).trans Ideal.ofBits_zero_f32

theorem claim : Cert.Claim :=
  ⟨Cert.Kernel.Gen.facts, Cert.KernelIdeal.Gen.facts, Cert.ReferenceIdeal.Gen.facts,
    Cert.Pre_unit_attr_zero_alpha.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    constant_named,
    value⟩

end Cert.Proof

end
